-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x768 : Shape := ⟨2, ![4096, 768]⟩
abbrev S64x768 : Shape := ⟨2, ![64, 768]⟩
abbrev S64 : Shape := ⟨1, ![64]⟩
abbrev S8x64 : Shape := ⟨2, ![8, 64]⟩
abbrev S8 : Shape := ⟨1, ![8]⟩
abbrev S8x768x768 : Shape := ⟨3, ![8, 768, 768]⟩
abbrev S8x768 : Shape := ⟨2, ![8, 768]⟩
abbrev S1x64 : Shape := ⟨2, ![1, 64]⟩
abbrev S1x8 : Shape := ⟨2, ![1, 8]⟩
abbrev S512x768 : Shape := ⟨2, ![512, 768]⟩
abbrev S512x64 : Shape := ⟨2, ![512, 64]⟩
abbrev S512x8 : Shape := ⟨2, ![512, 8]⟩
abbrev S512 : Shape := ⟨1, ![512]⟩
abbrev S512x1 : Shape := ⟨2, ![512, 1]⟩
abbrev S512x256 : Shape := ⟨2, ![512, 256]⟩
abbrev S1x256x768 : Shape := ⟨3, ![1, 256, 768]⟩
abbrev S256x768 : Shape := ⟨2, ![256, 768]⟩
abbrev S1x256 : Shape := ⟨2, ![1, 256]⟩

abbrev nBuf : Space → Nat
  | .hbm => 10
  | .vmem => 10
  | .smem => 0
  | _ => 0

abbrev bufTy : (tb : Table) → Fin (tcTables nBuf tb) → BufTy
  | .hbm, ⟨0, _⟩ => ⟨S4096x768, .f32⟩
  | .hbm, ⟨1, _⟩ => ⟨S64x768, .f32⟩
  | .hbm, ⟨2, _⟩ => ⟨S64, .f32⟩
  | .hbm, ⟨3, _⟩ => ⟨S8x64, .f32⟩
  | .hbm, ⟨4, _⟩ => ⟨S8, .f32⟩
  | .hbm, ⟨5, _⟩ => ⟨S8x768x768, .f32⟩
  | .hbm, ⟨6, _⟩ => ⟨S8x768, .f32⟩
  | .hbm, ⟨7, _⟩ => ⟨S1x64, .f32⟩
  | .hbm, ⟨8, _⟩ => ⟨S1x8, .f32⟩
  | .hbm, ⟨9, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S64x768, .f32⟩
  | .local _ .vmem, ⟨3, _⟩ => ⟨S1x64, .f32⟩
  | .local _ .vmem, ⟨4, _⟩ => ⟨S8x64, .f32⟩
  | .local _ .vmem, ⟨5, _⟩ => ⟨S1x8, .f32⟩
  | .local _ .vmem, ⟨6, _⟩ => ⟨S8x768x768, .f32⟩
  | .local _ .vmem, ⟨7, _⟩ => ⟨S8x768, .f32⟩
  | .local _ .vmem, ⟨8, _⟩ => ⟨S512x768, .f32⟩
  | .local _ .vmem, ⟨9, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x768 : Shape := ⟨2, ![4096, 768]⟩
abbrev S64x768 : Shape := ⟨2, ![64, 768]⟩
abbrev S64 : Shape := ⟨1, ![64]⟩
abbrev S8x64 : Shape := ⟨2, ![8, 64]⟩
abbrev S8 : Shape := ⟨1, ![8]⟩
abbrev S8x768x768 : Shape := ⟨3, ![8, 768, 768]⟩
abbrev S8x768 : Shape := ⟨2, ![8, 768]⟩
abbrev S768x64 : Shape := ⟨2, ![768, 64]⟩
abbrev S4096x64 : Shape := ⟨2, ![4096, 64]⟩
abbrev S1x64 : Shape := ⟨2, ![1, 64]⟩
abbrev S_ : Shape := ⟨0, ![]⟩
abbrev S64x8 : Shape := ⟨2, ![64, 8]⟩
abbrev S4096x8 : Shape := ⟨2, ![4096, 8]⟩
abbrev S1x8 : Shape := ⟨2, ![1, 8]⟩
abbrev S4096 : Shape := ⟨1, ![4096]⟩
abbrev S4096x1 : Shape := ⟨2, ![4096, 1]⟩
abbrev S4096x2 : Shape := ⟨2, ![4096, 2]⟩
abbrev S4096x2x1 : Shape := ⟨3, ![4096, 2, 1]⟩
abbrev S4096x2x2 : Shape := ⟨3, ![4096, 2, 2]⟩
abbrev S4096x8x768 : Shape := ⟨3, ![4096, 8, 768]⟩
abbrev S1x8x768 : Shape := ⟨3, ![1, 8, 768]⟩
abbrev S4096x8x1 : Shape := ⟨3, ![4096, 8, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S64x768, .f32⟩
  | .hbm, ⟨2, _⟩ => ⟨S64, .f32⟩
  | .hbm, ⟨3, _⟩ => ⟨S8x64, .f32⟩
  | .hbm, ⟨4, _⟩ => ⟨S8, .f32⟩
  | .hbm, ⟨5, _⟩ => ⟨S8x768x768, .f32⟩
  | .hbm, ⟨6, _⟩ => ⟨S8x768, .f32⟩
  | .hbm, ⟨7, _⟩ => ⟨S768x64, .f32⟩
  | .hbm, ⟨8, _⟩ => ⟨S4096x64, .f32⟩
  | .hbm, ⟨9, _⟩ => ⟨S1x64, .f32⟩
  | .hbm, ⟨10, _⟩ => ⟨S4096x64, .f32⟩
  | .hbm, ⟨11, _⟩ => ⟨S4096x64, .f32⟩
  | .hbm, ⟨12, _⟩ => ⟨S_, .f32⟩
  | .hbm, ⟨13, _⟩ => ⟨S4096x64, .f32⟩
  | .hbm, ⟨14, _⟩ => ⟨S4096x64, .f32⟩
  | .hbm, ⟨15, _⟩ => ⟨S64x8, .f32⟩
  | .hbm, ⟨16, _⟩ => ⟨S4096x8, .f32⟩
  | .hbm, ⟨17, _⟩ => ⟨S1x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x8, .f32⟩
  | .hbm, ⟨33, _⟩ => ⟨S4096x8, .f32⟩
  | .hbm, ⟨34, _⟩ => ⟨S4096x2, .f32⟩
  | .hbm, ⟨35, _⟩ => ⟨S4096x2, .i32⟩
  | .hbm, ⟨36, _⟩ => ⟨S4096, .i32⟩
  | .hbm, ⟨37, _⟩ => ⟨S4096x1, .i32⟩
  | .hbm, ⟨38, _⟩ => ⟨S_, .f32⟩
  | .hbm, ⟨39, _⟩ => ⟨S4096x8, .f32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S_, .i32⟩
  | .hbm, ⟨44, _⟩ => ⟨S4096x1, .i32⟩
  | .hbm, ⟨45, _⟩ => ⟨S4096x1, .i32⟩
  | .hbm, ⟨46, _⟩ => ⟨S4096x1, .i32⟩
  | .hbm, ⟨47, _⟩ => ⟨S_, .i32⟩
  | .hbm, ⟨48, _⟩ => ⟨S4096x2, .i32⟩
  | .hbm, ⟨49, _⟩ => ⟨S4096x2, .i1⟩
  | .hbm, ⟨50, _⟩ => ⟨S_, .i32⟩
  | .hbm, ⟨51, _⟩ => ⟨S4096x2, .i32⟩
  | .hbm, ⟨52, _⟩ => ⟨S4096x2, .i32⟩
  | .hbm, ⟨53, _⟩ => ⟨S4096x2, .i32⟩
  | .hbm, ⟨54, _⟩ => ⟨S4096x2, .i32⟩
  | .hbm, ⟨55, _⟩ => ⟨S4096x2x1, .i32⟩
  | .hbm, ⟨56, _⟩ => ⟨S4096x2x1, .i32⟩
  | .hbm, ⟨57, _⟩ => ⟨S4096x2x2, .i32⟩
  | .hbm, ⟨58, _⟩ => ⟨S4096x8, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x8, .f32⟩
  | .hbm, ⟨63, _⟩ => ⟨S4096x8, .f32⟩
  | .hbm, ⟨64, _⟩ => ⟨S4096x8x768, .f32⟩
  | .hbm, ⟨65, _⟩ => ⟨S1x8x768, .f32⟩
  | .hbm, ⟨66, _⟩ => ⟨S4096x8x768, .f32⟩
  | .hbm, ⟨67, _⟩ => ⟨S4096x8x768, .f32⟩
  | .hbm, ⟨68, _⟩ => ⟨S_, .f32⟩
  | .hbm, ⟨69, _⟩ => ⟨S4096x8x768, .f32⟩
  | .hbm, ⟨70, _⟩ => ⟨S4096x8x768, .f32⟩
  | .hbm, ⟨71, _⟩ => ⟨S4096x8x1, .f32⟩
  | .hbm, ⟨72, _⟩ => ⟨S4096x8x768, .f32⟩
  | .hbm, ⟨73, _⟩ => ⟨S4096x8x768, .f32⟩
  | .hbm, ⟨74, _⟩ => ⟨S_, .f32⟩
  | .hbm, ⟨75, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Row.lean ====
/-
  The mathematics of one row of the gate. A row of eight scores is turned into eight weights by `soft`; of the
  weights the two greatest are kept, ties going to the lower position, and divided by their sum (`gate`).

  The scores are extended reals. Either the greatest score is finite, and then every weight is at least zero, or it is
  infinite, and then every weight is `⊥` (`soft_cases`). In both cases keeping the two greatest by masking out the first and
  looking for the greatest of the rest gives what sorting gives (`gate_of_sorted`).
-/
module

public import Idealize.ShloMosaic.Lib.Pointwise

@[expose] public section

noncomputable section

namespace Cert.Moe

open Idealize.ShloMosaic

/-- The greatest of eight numbers. -/
def top (W : Fin 8 → EReal) : EReal := Finset.univ.sup W

/-- The softmax of eight scores: the exponentials of the scores less the greatest, divided by their sum. -/
def soft (L : Fin 8 → EReal) (e : Fin 8) : EReal :=
  Ideal.div (Ideal.exp (L e - top L)) (∑ k, Ideal.exp (L k - top L))

/-- Position `p` is the first at which `W` is greatest. -/
structure IsFirst (W : Fin 8 → EReal) (p : Fin 8) : Prop where
  le : ∀ k, W k ≤ W p
  lt : ∀ k, k < p → W k < W p

/-- Position `q` is the first, other than `p`, at which `W` is greatest among the positions other than `p`. -/
structure IsSecond (W : Fin 8 → EReal) (p q : Fin 8) : Prop where
  ne : q ≠ p
  le : ∀ k, k ≠ p → W k ≤ W q
  lt : ∀ k, k ≠ p → k < q → W k < W q

theorem exists_isFirst (W : Fin 8 → EReal) : ∃ p, IsFirst W p := by
  obtain ⟨p, hp, hmin⟩ := (Set.toFinite {k : Fin 8 | ∀ j, W j ≤ W k}).exists_minimal
    (by
      obtain ⟨k, hk⟩ := Finite.exists_max W
      exact ⟨k, hk⟩)
  refine ⟨p, hp, fun k hk => lt_of_le_of_ne (hp k) fun he => ?_⟩
  exact absurd (hmin (show k ∈ {k : Fin 8 | ∀ j, W j ≤ W k} from fun j => he ▸ hp j) hk.le) (not_le.mpr hk)

/-- The first position at which `W` is greatest. -/
def first (W : Fin 8 → EReal) : Fin 8 := (exists_isFirst W).choose

theorem first_spec (W : Fin 8 → EReal) : IsFirst W (first W) := (exists_isFirst W).choose_spec

theorem IsFirst.top_eq {W : Fin 8 → EReal} {p : Fin 8} (h : IsFirst W p) : top W = W p :=
  le_antisymm (Finset.sup_le fun k _ => h.le k) (Finset.le_sup (f := W) (Finset.mem_univ p))

theorem IsFirst.unique {W : Fin 8 → EReal} {p q : Fin 8} (hp : IsFirst W p) (hq : IsFirst W q) : p = q := by
  rcases lt_trichotomy p q with h | h | h
  · exact absurd (hq.lt p h) (not_lt.mpr (hp.le q))
  · exact h
  · exact absurd (hp.lt q h) (not_lt.mpr (hq.le p))

/-- The row with its first greatest entry masked by `-1`. -/
def rest (W : Fin 8 → EReal) (k : Fin 8) : EReal := if k = first W then -1 else W k

/-- The two greatest entries at their positions, zero elsewhere. -/
def pick (W : Fin 8 → EReal) (e : Fin 8) : EReal :=
  (if e = first W then top W else 0) + (if e = first (rest W) then top (rest W) else 0)

/-- The two greatest entries at their positions, divided by their sum. -/
def gate (W : Fin 8 → EReal) (e : Fin 8) : EReal := Ideal.div (pick W e) (top W + top (rest W))

/-! ## The whole row -/

/-- The gate's scores of one row `x`: a hidden layer with a rectifier, then a linear layer. -/
def score (x : Fin 768 → EReal) (A : Fin 64 → Fin 768 → EReal) (b : Fin 64 → EReal) (B : Fin 8 → Fin 64 → EReal)
    (d : Fin 8 → EReal) (e : Fin 8) : EReal :=
  ∑ h, max (∑ k, x k * A h k + b h) 0 * B e h + d e

/-- One entry of an expert's output: a linear layer with a rectifier. -/
def expert (x V : Fin 768 → EReal) (c : EReal) : EReal := max (∑ k, x k * V k + c) 0

/-- One entry of the output: the experts' entries, weighted by the gate of the row's weights. -/
def mix (W : Fin 8 → EReal) (x : Fin 768 → EReal) (V : Fin 8 → Fin 768 → EReal) (c : Fin 8 → EReal) : EReal :=
  ∑ e, gate W e * expert x (V e) (c e)

/-! ## The weights of a row -/

theorem div_nonneg {x y : EReal} (hx : 0 ≤ x) (hy : 0 < y) : 0 ≤ Ideal.div x y := by
  unfold Ideal.div
  rw [if_neg hy.ne']
  exact mul_nonneg hx (EReal.inv_nonneg_of_nonneg hy.le)

theorem exp_nonneg (x : EReal) : 0 ≤ Ideal.exp x := by
  induction x using EReal.rec with
  | bot => simp
  | top => simp
  | coe r => rw [Ideal.exp_coe]; exact_mod_cast (Real.exp_pos r).le

theorem exp_zero : Ideal.exp 0 = 1 := by
  have h : (0 : EReal) = ((0 : ℝ) : EReal) := rfl
  rw [h, Ideal.exp_coe, Real.exp_zero]; rfl

/-- The weights of a row are all at least zero, or all `⊥`. -/
theorem soft_cases (L : Fin 8 → EReal) : (∀ e, 0 ≤ soft L e) ∨ (∀ e, soft L e = ⊥) := by
  obtain ⟨p, hp⟩ := exists_isFirst L
  by_cases hfin : top L = ⊤ ∨ top L = ⊥
  · refine Or.inr fun e => ?_
    have hsub : ∀ k, L k - top L = ⊥ := by
      intro k
      rcases hfin with h | h
      · rw [h, sub_eq_add_neg, EReal.neg_top, EReal.add_bot]
      · have hk : L k = ⊥ := le_bot_iff.mp (h ▸ hp.top_eq ▸ hp.le k)
        rw [hk, sub_eq_add_neg, EReal.bot_add]
    unfold soft
    simp only [hsub, Ideal.exp_bot, Finset.sum_const_zero]
    simp [Ideal.div]
  · rw [not_or] at hfin
    refine Or.inl fun e => div_nonneg (exp_nonneg _) ?_
    have h1 : Ideal.exp (L p - top L) = 1 := by
      rw [← hp.top_eq, EReal.sub_self hfin.1 hfin.2, exp_zero]
    refine lt_of_lt_of_le ?_ (Finset.single_le_sum (f := fun k => Ideal.exp (L k - top L)) (fun k _ => exp_nonneg _)
      (Finset.mem_univ p))
    rw [h1]; exact zero_lt_one

/-! ## The gate from the two first positions of the sorted row -/

/-- Two entries placed at different positions, added up over the row. -/
theorem sum_two {p q : Fin 8} (h : q ≠ p) (a b : EReal) :
    ∑ k : Fin 8, (if k = q then b else if k = p then a else 0) = a + b := by
  have e : ∀ k : Fin 8, (if k = q then b else if k = p then a else 0)
      = (if k = p then a else 0) + (if k = q then b else 0) := by
    intro k
    by_cases hq : k = q
    · subst hq; simp [h]
    · simp [hq]
  simp only [e, Finset.sum_add_distrib, Finset.sum_ite_eq', Finset.mem_univ, if_true]

theorem div_bot (x : EReal) : Ideal.div x ⊥ = 0 := by
  simp [Ideal.div]

/-- Where the weights are at least zero the greatest of the masked row stands at the second position. -/
theorem second_of_nonneg {W : Fin 8 → EReal} (h : ∀ e, 0 ≤ W e) : IsSecond W (first W) (first (rest W)) := by
  have hr := first_spec (rest W)
  have h1 : (-1 : EReal) < 0 := by
    rw [← EReal.coe_one, ← EReal.coe_neg, ← EReal.coe_zero, EReal.coe_lt_coe_iff]; norm_num
  have hlt : ∀ k, (-1 : EReal) < W k := fun k => lt_of_lt_of_le h1 (h k)
  have hat : ∀ k, k ≠ first W → rest W k = W k := fun k hk => if_neg hk
  have hne : first (rest W) ≠ first W := by
    intro he
    obtain ⟨k, hk⟩ : ∃ k : Fin 8, k ≠ first W := exists_ne _
    have := hr.le k
    rw [he, hat k hk, rest, if_pos rfl] at this
    exact absurd this (not_le.mpr (hlt k))
  refine ⟨hne, fun k hk => ?_, fun k hk hkq => ?_⟩
  · have := hr.le k; rwa [hat k hk, hat _ hne] at this
  · have := hr.lt k hkq; rwa [hat k hk, hat _ hne] at this

/-- Some two positions are the first two of the sorted row, and the entries placed there, divided by the sum of the row so
    placed, are the gate. -/
theorem gate_of_sorted {W : Fin 8 → EReal} (h : (∀ e, 0 ≤ W e) ∨ (∀ e, W e = ⊥)) :
    ∃ p q, IsFirst W p ∧ IsSecond W p q ∧ ∀ e,
      Ideal.div (if e = q then W q else if e = p then W p else 0)
        (∑ k : Fin 8, (if k = q then W q else if k = p then W p else 0)) = gate W e := by
  rcases h with h | h
  · have hq := second_of_nonneg h
    refine ⟨first W, first (rest W), first_spec W, hq, fun e => ?_⟩
    have hv : top (rest W) = W (first (rest W)) := by
      rw [(first_spec (rest W)).top_eq, rest, if_neg hq.ne]
    rw [sum_two hq.ne, gate, pick, (first_spec W).top_eq, hv]
    congr 1
    by_cases e1 : e = first (rest W)
    · rw [e1]; simp [hq.ne]
    · simp [e1]
  · refine ⟨0, 1, ⟨fun k => by rw [h, h], fun k hk => absurd hk (Fin.not_lt_zero k)⟩,
      ⟨by decide, fun k _ => by rw [h, h], fun k hk hk1 => absurd (show k = 0 by omega) hk⟩, fun e => ?_⟩
    rw [sum_two (by decide), gate, h, h, EReal.bot_add, (first_spec W).top_eq, h, EReal.bot_add, div_bot, div_bot]

/-! ## What a reduction of eight entries is -/

theorem negInf_f32 : Ideal.ofBits .f32 0xFF800000#32 = ⊥ := by simp [Ideal.ofBits, Ideal.ieee]

theorem negOne_f32 : Ideal.ofBits .f32 0xBF800000#32 = -1 := IdealRules.sign_bit.ideal_negOnePat .f32

/-- The maximum of a row, begun at minus infinity. -/
theorem fold_max_eq_top (W : Fin 8 → EReal) :
    Finset.fold max (Ideal.ofBits .f32 0xFF800000#32) W Finset.univ = top W := by
  rw [negInf_f32]; rfl

/-- The least of the positions that satisfy `P`, taken over the words of the positions (eight standing for "none"). -/
theorem fold_minsi_first (P : Fin 8 → Bool) (p : Fin 8) (hp : P p = true) (hlt : ∀ k, k < p → P k = false) :
    Finset.fold IntOp.minsi 2147483647#32 (fun k => if P k = true then BitVec.ofNat 32 k.val else 8#32) Finset.univ
      = BitVec.ofNat 32 p.val := by
  revert P p
  decide +kernel

end Cert.Moe

end
-- ==== Proof.Block.lean ====
/-
  What one grid point computes: a block of 512 rows of the output. The block is stored as three chunks of 256 columns; each
  chunk is the sum of the eight experts' parts, the even experts added up apart from the odd ones. At an index the block is
  `mix` of its row (`block_apply`).
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Row

@[expose] public section

set_option maxRecDepth 16384

noncomputable section

namespace Cert.KernelIdeal.Block

open Cert.KernelIdeal Cert.KernelIdeal.Gen Cert.Moe Idealize.ShloMosaic

/-! ## One chunk of columns -/

theorem slices_col : ∀ e : Fin 8, S512x8.Slices ![0, e.val] S512x1 := by decide

/-- Expert `e`'s part of a chunk: its output on the block's rows, each row times its gate. -/
def part (g : FVec Ideal S512x8 .f32) (x : FVec Ideal S512x768 .bf16) (w : Vec Ideal S1x256x768 .f32) (c : Vec Ideal S1x256 .f32)
    (e : Fin 8) : FVec Ideal S512x256 .f32 :=
  mulf (broadcastTo S512x256 (shapeCast S512x1 (shapeCast S512 (extractStridedSlice S512x1 ![0, e.val] g (slices_col e))
      shapeCasts_S512x1_S512) shapeCasts_S512_S512x1) broadcasts_S512x1_S512x256)
    (maximumf (addf (matmul dot_S512x768_S256x768_S512x256_1_1_0_0_n_n none x
        (truncf .bf16 (shapeCast S256x768 w shapeCasts_S1x256x768_S256x768 : FVec Ideal S256x768 .f32) bitsLt_bf16_f32)
        (constant S512x256 .f32 0x00000000#32))
      (broadcastTo S512x256 c broadcasts_S1x256_S512x256)) (broadcast S512x256 (Scalar.ofBits .f32 0x00000000#32)))

theorem part_apply (g : FVec Ideal S512x8 .f32) (x : FVec Ideal S512x768 .bf16) (w : Vec Ideal S1x256x768 .f32)
    (c : Vec Ideal S1x256 .f32) (e : Fin 8) (r : Fin 512) (o : Fin 256) :
    part g x w c e (ix2 r o)
      = g (ix2 r e) * expert (fun k => x (ix2 r k)) (fun k => w (ix3 0 o k)) (c (ix2 0 o)) := by
  pointwise [part]
  rfl

/-- A chunk: the even experts' parts, added up from zero, and the odd experts', added up from zero. -/
def chunk (g : FVec Ideal S512x8 .f32) (x : FVec Ideal S512x768 .bf16) (w : Fin 8 → Vec Ideal S1x256x768 .f32)
    (c : Fin 8 → Vec Ideal S1x256 .f32) : FVec Ideal S512x256 .f32 :=
  let z : FVec Ideal S512x256 .f32 := broadcast S512x256 (Scalar.ofBits .f32 0x00000000#32)
  let p : Fin 8 → FVec Ideal S512x256 .f32 := fun e => part g x (w e) (c e) e
  addf (addf (addf (addf (addf z (p 0)) (p 2)) (p 4)) (p 6)) (addf (addf (addf (addf z (p 1)) (p 3)) (p 5)) (p 7))

theorem chunk_apply (g : FVec Ideal S512x8 .f32) (x : FVec Ideal S512x768 .bf16) (w : Fin 8 → Vec Ideal S1x256x768 .f32)
    (c : Fin 8 → Vec Ideal S1x256 .f32) (r : Fin 512) (o : Fin 256) :
    chunk g x w c (ix2 r o)
      = ∑ e : Fin 8, g (ix2 r e) * expert (fun k => x (ix2 r k)) (fun k => w e (ix3 0 o k)) (c e (ix2 0 o)) := by
  simp only [← part_apply, Fin.sum_univ_eight]
  pointwise [chunk]
  ac_rfl

/-! ## The gate of a block -/

theorem weights_apply (x : Vec Ideal S512x768 .f32) (A : Vec Ideal S64x768 .f32) (b : Vec Ideal S1x64 .f32)
    (B : Vec Ideal S8x64 .f32) (d : Vec Ideal S1x8 .f32) (r : Fin 512) (e : Fin 8) :
    k0_pay2 x A b B d (ix2 r e)
      = soft (score (fun k => x (ix2 r k)) (fun h k => A (ix2 h k)) (fun h => b (ix2 0 h)) (fun e h => B (ix2 e h))
          (fun e => d (ix2 0 e))) e := by
  pointwise [k0_pay2]
  simp only [fold_max_eq_top]
  rfl

/-- The least of the positions at which a row takes its greatest value is the first of them. -/
theorem fold_minsi_top (W : Fin 8 → EReal) :
    Finset.fold IntOp.minsi 2147483647#32 (fun k => if W k = top W then BitVec.ofNat 32 k.val else 8#32) Finset.univ
      = BitVec.ofNat 32 (first W).val := by
  have h := first_spec W
  have := fold_minsi_first (fun k => decide (W k = top W)) (first W) (by simp [h.top_eq])
    (fun k hk => by simp [h.top_eq, (h.lt k hk).ne])
  simpa using this

/-- Comparing a position with the first one. -/
theorem select_pos (e p : Fin 8) (a b : EReal) :
    Scalar.select (IntOp.cmpi .eq (BitVec.ofNat 32 e.val) (BitVec.ofNat 32 p.val)) a b = if e = p then a else b := by
  have : IntOp.cmpi .eq (BitVec.ofNat 32 e.val) (BitVec.ofNat 32 p.val) = BitVec.ofBool (decide (e = p)) := by
    revert e p; decide
  rw [this]
  by_cases h : e = p <;> simp [h, Scalar.select]

/-- The gate weights of row `r` of a block. -/
abbrev rowWeights (x : Vec Ideal S512x768 .f32) (A : Vec Ideal S64x768 .f32) (b : Vec Ideal S1x64 .f32)
    (B : Vec Ideal S8x64 .f32) (d : Vec Ideal S1x8 .f32) (r : Fin 512) : Fin 8 → EReal :=
  soft (score (fun k => x (ix2 r k)) (fun h k => A (ix2 h k)) (fun h => b (ix2 0 h)) (fun e h => B (ix2 e h))
    (fun e => d (ix2 0 e)))

section
variable (x : Vec Ideal S512x768 .f32) (A : Vec Ideal S64x768 .f32) (b : Vec Ideal S1x64 .f32) (B : Vec Ideal S8x64 .f32)
  (d : Vec Ideal S1x8 .f32) (r : Fin 512) (e : Fin 8)

theorem best_apply : k0_pay3 x A b B d (ix2 r 0) = top (rowWeights x A b B d r) := by
  pointwise [k0_pay3]
  simp only [weights_apply, fold_max_eq_top]

theorem atBest_apply :
    k0_pay4 x A b B d (ix2 r e)
      = IntOp.cmpi .eq (BitVec.ofNat 32 e.val) (BitVec.ofNat 32 (first (rowWeights x A b B d r)).val) := by
  pointwise [k0_pay4, k0_pay3]
  simp only [weights_apply, fold_max_eq_top, fold_minsi_top]

theorem others_apply : k0_pay5 x A b B d (ix2 r e) = rest (rowWeights x A b B d r) e := by
  pointwise [k0_pay5]
  simp only [weights_apply, atBest_apply, negOne_f32, select_pos, rest]

theorem next_apply : k0_pay6 x A b B d (ix2 r 0) = top (rest (rowWeights x A b B d r)) := by
  pointwise [k0_pay6]
  simp only [others_apply, fold_max_eq_top]

theorem gate_apply (i : IVec S512x8 32) (hi : ∀ k : Fin 8, i (ix2 r k) = BitVec.ofNat 32 k.val) :
    k0_pay7 i (k0_pay3 x A b B d) (k0_pay4 x A b B d) (k0_pay5 x A b B d) (k0_pay6 x A b B d) (ix2 r e)
      = gate (rowWeights x A b B d r) e := by
  pointwise [k0_pay7]
  simp only [best_apply, atBest_apply, others_apply, next_apply, hi, fold_minsi_top, select_pos]
  rfl

end

/-! ## The block -/

theorem inb_w : ∀ (j : Fin 3) (e : Fin 8) (a : Fin 3),
    (![e.val, 256 * j.val, 0] : Fin 3 → Nat) a + S1x256x768.size a ≤ S8x768x768.size a := by decide

theorem inb_c : ∀ (j : Fin 3) (e : Fin 8) (a : Fin 2),
    (![e.val, 256 * j.val] : Fin 2 → Nat) a + S1x256.size a ≤ S8x768.size a := by decide

/-- Rows `256 j …` of expert `e`'s matrix. -/
def wts (V : Vec Ideal S8x768x768 .f32) (j : Fin 3) (e : Fin 8) : Vec Ideal S1x256x768 .f32 :=
  View.ld V (Rect.unit (s := S8x768x768) ![e.val, 256 * j.val, 0] S1x256x768.size (inb_w j e))

/-- Entries `256 j …` of expert `e`'s bias. -/
def bias (c : Vec Ideal S8x768 .f32) (j : Fin 3) (e : Fin 8) : Vec Ideal S1x256 .f32 :=
  View.ld c (Rect.unit (s := S8x768) ![e.val, 256 * j.val] S1x256.size (inb_c j e))

section
variable (x0 : Vec Ideal S512x768 .f32) (x1 : Vec Ideal S64x768 .f32) (x2 : Vec Ideal S1x64 .f32) (x3 : Vec Ideal S8x64 .f32)
  (x4 : Vec Ideal S1x8 .f32) (x5 : Vec Ideal S8x768x768 .f32) (x6 : Vec Ideal S8x768 .f32)

theorem out_eq_chunks :
    out0_7 x0 x1 x2 x3 x4 x5 x6
      = View.canon [⟨r0_55, chunk (k0_pay44 x0 x1 x2 x3 x4 x5 x6) (k0_pay45 x0 x1 x2 x3 x4 x5 x6) (wts x5 2) (bias x6 2)⟩,
          ⟨r0_38, chunk (k0_pay44 x0 x1 x2 x3 x4 x5 x6) (k0_pay45 x0 x1 x2 x3 x4 x5 x6) (wts x5 1) (bias x6 1)⟩,
          ⟨r0_21, chunk (k0_pay44 x0 x1 x2 x3 x4 x5 x6) (k0_pay45 x0 x1 x2 x3 x4 x5 x6) (wts x5 0) (bias x6 0)⟩] :=
  rfl

theorem wts_apply (j : Fin 3) (e : Fin 8) (o : Fin 256) (k : Fin 768) (u : Fin 768) (hu : u.val = 256 * j.val + o.val) :
    wts x5 j e (ix3 0 o k) = x5 (ix3 e u k) :=
  View.ld_unit_apply_of x5 _ _ _ _ _ fun a => match a with
    | ⟨0, _⟩ => rfl
    | ⟨1, _⟩ => hu
    | ⟨2, _⟩ => (Nat.zero_add _).symm

theorem bias_apply (j : Fin 3) (e : Fin 8) (o : Fin 256) (u : Fin 768) (hu : u.val = 256 * j.val + o.val) :
    bias x6 j e (ix2 0 o) = x6 (ix2 e u) :=
  View.ld_unit_apply_of x6 _ _ _ _ _ fun a => match a with
    | ⟨0, _⟩ => rfl
    | ⟨1, _⟩ => hu

theorem gates_eq (r : Fin 512) (e : Fin 8) :
    k0_pay44 x0 x1 x2 x3 x4 x5 x6 (ix2 r e) = gate (rowWeights x0 x1 x2 x3 x4 r) e := by
  unfold k0_pay44 k0_pay40 k0_pay41 k0_pay42 k0_pay43
  rw [gate_apply _ _ _ _ _ _ _ _ (fun k => by pointwise [k0_pay39])]
  rw [View.ld_unit_lit _ x0 (by decide), View.ld_unit_lit _ x1 (by decide), View.ld_unit_lit _ x2 (by decide),
    View.ld_unit_lit _ x3 (by decide), View.ld_unit_lit _ x4 (by decide)]

theorem rows_eq : k0_pay45 x0 x1 x2 x3 x4 x5 x6 = x0 := by
  unfold k0_pay45
  rw [View.ld_unit_lit _ x0 (by decide)]
  rfl

/-- The value of a block at row `r` and column `u`. -/
def value (r : Fin 512) (u : Fin 768) : EReal :=
  mix (rowWeights x0 x1 x2 x3 x4 r) (fun k => x0 (ix2 r k)) (fun e k => x5 (ix3 e u k)) (fun e => x6 (ix2 e u))

/-- The chunk of columns `256 j …` holds the block's values there. -/
theorem chunk_eq (j : Fin 3) (r : Fin 512) (o : Fin 256) (u : Fin 768) (hu : u.val = 256 * j.val + o.val) :
    chunk (k0_pay44 x0 x1 x2 x3 x4 x5 x6) (k0_pay45 x0 x1 x2 x3 x4 x5 x6) (wts x5 j) (bias x6 j) (ix2 r o)
      = value x0 x1 x2 x3 x4 x5 x6 r u := by
  rw [chunk_apply, rows_eq]
  simp only [gates_eq, wts_apply x5 j _ o _ u hu, bias_apply x6 j _ o u hu]
  rfl

/-- Where chunk `j`'s rectangle holds the index `(r, u)`, the chunk holds the block's value there. -/
theorem tile_eq (j : Fin 3) (r : Fin 512) (u : Fin 768) :
    View.TileAt (Val := Elt Ideal) (e := .f32) (ix2 r u : S512x768.Idx) ![0, 256 * j.val] S512x256.size
      (chunk (k0_pay44 x0 x1 x2 x3 x4 x5 x6) (k0_pay45 x0 x1 x2 x3 x4 x5 x6) (wts x5 j) (bias x6 j))
      (value x0 x1 x2 x3 x4 x5 x6 r u) := by
  intro z hz
  obtain ⟨r', o, rfl⟩ : ∃ (r' : Fin 512) (o : Fin 256), z = ix2 r' o := ⟨z 0, z 1, (ix2_eta (n0 := 512) (n1 := 256) z).symm⟩
  have hr : r = r' := Fin.ext ((hz 0).trans (Nat.zero_add _))
  rw [hr]
  exact chunk_eq x0 x1 x2 x3 x4 x5 x6 j r' o u (hz 1)

theorem block_apply (r : Fin 512) (u : Fin 768) :
    out0_7 x0 x1 x2 x3 x4 x5 x6 (ix2 r u) = value x0 x1 x2 x3 x4 x5 x6 r u := by
  rw [out_eq_chunks]
  refine View.canon_eq_of_allAt _ _ _ (cover0_7 _ _ _ _) ?_
  refine View.allAt_cons_unit _ _ _ _ _ (tile_eq x0 x1 x2 x3 x4 x5 x6 2 r u) ?_
  refine View.allAt_cons_unit _ _ _ _ _ (tile_eq x0 x1 x2 x3 x4 x5 x6 1 r u) ?_
  exact View.allAt_cons_unit _ _ _ _ _ (tile_eq x0 x1 x2 x3 x4 x5 x6 0 r u) (View.allAt_nil _ _)

end

end Cert.KernelIdeal.Block

end
-- ==== Proof.Array.lean ====
/-
  What the kernel leaves in the output array: at row `i` and column `u`, `mix` of row `i` of the arguments. The eight grid
  points write 512 rows each; every window but the rows' and the output's stages its whole array at every point.
-/
module

public import proofs.«01_k».proof.Proof.Gen.KernelIdeal.Value
public import Idealize.ShloMosaic.Lib.Claim
public import Idealize.ShloMosaic.Lib.Pipeline.ValueKit
public import proofs.«01_k».proof.Proof.Block

@[expose] public section

set_option maxRecDepth 16384

noncomputable section

namespace Cert.KernelIdeal.Output

open Cert.KernelIdeal Cert.KernelIdeal.Gen Cert.KernelIdeal.Block Cert.Moe Idealize.ShloMosaic Idealize.ShloMosaic.TcCoe
  Idealize.SL.Sem

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

/-- Row `r` of point `t`'s block, as a row of the array. -/
def row (t : Fin cfg0.N) (r : Fin 512) : Fin 4096 := ⟨512 * t.val + r.val, by have := t.isLt; have : cfg0.N = 8 := rfl; omega⟩

variable (m : (ℓ : Loc nD τ sig) → Buf (Elt Ideal) ℓ) (c : Dev nD)

theorem rows_block (t : Fin cfg0.N) (r : Fin 512) (k : Fin 768) :
    iblk m c 0 t (ix2 r k) = m ((c : Thread nD τ).loc main_arg0) (ix2 (row t r) k) := by
  blk_simp [iblk, index0]
  rw [← V_main_arg0 m c]
  congr 1
  blk_ext [index0, row]

theorem hidden_block (t : Fin cfg0.N) : iblk m c 1 t = m ((c : Thread nD τ).loc main_arg1) := by
  funext y
  blk_simp [iblk, index1]
  rw [← V_main_arg1 m c]
  congr 1
  blk_ext [index1]

/-- The hidden layer's bias reaches the region as a row. -/
theorem hiddenBias_entry (h : Fin 64) :
    V m c main_call0_v0 (ix2 0 h) = m ((c : Thread nD τ).loc main_arg2) (ix1 h) := by
  entry_read
  pointwise

/-- So does the gate's bias. -/
theorem gateBias_entry (e : Fin 8) :
    V m c main_call0_v1 (ix2 0 e) = m ((c : Thread nD τ).loc main_arg4) (ix1 e) := by
  entry_read
  pointwise

theorem hiddenBias_block (t : Fin cfg0.N) (h : Fin 64) :
    iblk m c 2 t (ix2 0 h) = m ((c : Thread nD τ).loc main_arg2) (ix1 h) := by
  rw [← hiddenBias_entry m c]
  blk_simp [iblk, index2]
  congr 1
  blk_ext [index2]

theorem gate_block (t : Fin cfg0.N) : iblk m c 3 t = m ((c : Thread nD τ).loc main_arg3) := by
  funext y
  blk_simp [iblk, index3]
  rw [← V_main_arg3 m c]
  congr 1
  blk_ext [index3]

theorem gateBias_block (t : Fin cfg0.N) (e : Fin 8) :
    iblk m c 4 t (ix2 0 e) = m ((c : Thread nD τ).loc main_arg4) (ix1 e) := by
  rw [← gateBias_entry m c]
  blk_simp [iblk, index4]
  congr 1
  blk_ext [index4]

theorem experts_block (t : Fin cfg0.N) : iblk m c 5 t = m ((c : Thread nD τ).loc main_arg5) := by
  funext y
  blk_simp [iblk, index5]
  rw [← V_main_arg5 m c]
  congr 1
  blk_ext [index5]

theorem expertBias_block (t : Fin cfg0.N) : iblk m c 6 t = m ((c : Thread nD τ).loc main_arg6) := by
  funext y
  blk_simp [iblk, index6]
  rw [← V_main_arg6 m c]
  congr 1
  blk_ext [index6]

/-- The output at row `i` and column `u`, from the argument arrays. -/
def result (x : Vec Ideal S4096x768 .f32) (A : Vec Ideal S64x768 .f32) (b : Vec Ideal S64 .f32) (B : Vec Ideal S8x64 .f32)
    (d : Vec Ideal S8 .f32) (V : Vec Ideal S8x768x768 .f32) (c : Vec Ideal S8x768 .f32) (i : Fin 4096) (u : Fin 768) : EReal :=
  mix (soft (score (fun k => x (ix2 i k)) (fun h k => A (ix2 h k)) (fun h => b (ix1 h)) (fun e h => B (ix2 e h))
    (fun e => d (ix1 e)))) (fun k => x (ix2 i k)) (fun e k => V (ix3 e u k)) (fun e => c (ix2 e u))

/-- The whole output array. -/
def output : Vec Ideal S4096x768 .f32 := fun y =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (y 0) (y 1)

theorem block_value (t : Fin cfg0.N) (r : Fin 512) (u : Fin 768) :
    value (iblk m c 0 t) (iblk m c 1 t) (iblk m c 2 t) (iblk m c 3 t) (iblk m c 4 t) (iblk m c 5 t) (iblk m c 6 t) r u
      = output m c (ix2 (row t r) u) := by
  unfold value rowWeights
  simp only [rows_block, hiddenBias_block, gateBias_block]
  rw [hidden_block, gate_block, experts_block, expertBias_block]
  rfl

theorem array_eq : (dats m 0 c).arrAt 7 cfg0.N = output m c := by
  refine (dats m 0 c).arrAt_eq_of_covers 7 _ (by decide +kernel) fun t hf y => ?_
  blk_simp
  rw [after0_7]
  obtain ⟨r, u, rfl⟩ : ∃ (r : Fin 512) (u : Fin 768), y = ix2 r u := ⟨y 0, y 1, (ix2_eta (n0 := 512) (n1 := 768) y).symm⟩
  refine (block_apply _ _ _ _ _ _ _ r u).trans ((block_value m c t r u).trans ?_)
  congr 1
  blk_ext [index7, row]

end Cert.KernelIdeal.Output

end
-- ==== Proof.Sort.lean ====
/-
  The first two positions of a stable sort of eight numbers, greatest first: the first position at which the row is
  greatest, then the first of the others at which it is greatest. A stable sort keeps the order of entries that compare
  alike, so it is the sort by the entry and then the position, which is a strict total order.
-/
module

public import Idealize.ShloMosaic.Lib.SortPrefix
public import proofs.«01_k».proof.Proof.Row

@[expose] public section

noncomputable section

namespace Cert.Moe

open Idealize.ShloMosaic

/-- On positions in increasing order, a stable sort does the same whether or not it goes on to compare the positions of
    entries that tie (by whatever rule `T` says two entries tie). -/
theorem stableSort_then_position {n : Nat} (B T : Fin n → Fin n → Bool) (l : List (Fin n)) (hl : l.Pairwise (· < ·)) :
    stableSort B l = stableSort (fun a b => B a b || (T a b && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

theorem sortedFrom_then_position {n : Nat} (B T : Fin n → Fin n → Bool) :
    sortedFrom B = sortedFrom (fun a b => B a b || (T a b && decide (a < b))) := by
  funext k
  unfold sortedFrom
  rw [List.get_of_eq (show sortPositions n B = sortPositions n _ from
    stableSort_then_position B T (List.finRange n) (List.pairwise_lt_finRange n))]
  rfl

/-- The first two positions of a row sorted greatest first. -/
theorem sortedFrom_two {W : Fin 8 → EReal} {p q : Fin 8} (hp : IsFirst W p) (hq : IsSecond W p q) (i : Fin 2) :
    sortedFrom (fun k k' => decide (W k' < W k)) (i.castLE (by decide)) = ![p, q] i := by
  classical
  rw [sortedFrom_then_position _ (fun k k' => decide (W k = W k'))]
  have hB := StrictTotalBefore.of_key_then_position (n := 8) (fun a b : EReal => decide (b < a)) W
    (fun a => by simp) (fun a b c hab hbc => by simp only [decide_eq_true_eq] at *; exact hbc.trans hab)
    (fun a b => by simp only [decide_eq_true_eq]; rcases lt_trichotomy a b with h | h | h <;> simp [h])
  refine hB.sortedFrom_eq_of_prefix (by decide) ![p, q] ?_ ?_ ?_ i
  · intro a b hab
    fin_cases a <;> fin_cases b <;> first | rfl | exact absurd hab hq.ne | exact absurd hab hq.ne.symm
  · intro a b hab
    obtain ⟨rfl, rfl⟩ := (by decide : ∀ a b : Fin 2, a < b → a = 0 ∧ b = 1) a b hab
    refine Bool.eq_false_iff.mpr fun hlt => ?_
    simp only [Bool.or_eq_true, Bool.and_eq_true, decide_eq_true_eq] at hlt
    rcases hlt with h | ⟨h, h'⟩
    · exact absurd h (not_lt.mpr (hp.le q))
    · exact absurd h (hp.lt q h').ne
  · intro a k hk
    have h0 : k ≠ p := fun h => hk 0 h.symm
    have h1 : k ≠ q := fun h => hk 1 h.symm
    refine Bool.eq_false_iff.mpr fun hlt => ?_
    simp only [Bool.or_eq_true, Bool.and_eq_true, decide_eq_true_eq] at hlt
    fin_cases a
    · rcases hlt with h | ⟨h, h'⟩
      · exact absurd h (not_lt.mpr (hp.le k))
      · exact absurd h (hp.lt k h').ne
    · rcases hlt with h | ⟨h, h'⟩
      · exact absurd h (not_lt.mpr (hq.le k h0))
      · exact absurd h (hq.lt k h0 h').ne

end Cert.Moe

end
-- ==== Proof.Reference.lean ====
/-
  What the reference computes. Its program is cut into the stages of the mathematics (scores, exponentials, a division by the
  row's sum, the two greatest weights placed in a row of zeros, the weighted sum of the experts), each stage is read at an
  index, and together they are `mix` of the row (`whole_apply`).
-/
module

public import proofs.«01_k».proof.Proof.Gen.ReferenceIdeal.Run
public import Idealize.ShloMosaic.Lib.Pointwise
public import Idealize.ShloMosaic.Lib.Routing.OpsSet
public import proofs.«01_k».proof.Proof.Sort

@[expose] public section

set_option maxRecDepth 16384

noncomputable section

namespace Cert.ReferenceIdeal.Stage

open Cert.ReferenceIdeal Cert.ReferenceIdeal.Gen Cert.Moe Idealize.ShloMosaic Idealize.SL.Sem

/-! ## The stages -/

/-- The scores of the gate. -/
def scores (x : Vec Ideal S4096x768 .f32) (A : Vec Ideal S64x768 .f32) (b : Vec Ideal S64 .f32) (B : Vec Ideal S8x64 .f32)
    (d : Vec Ideal S8 .f32) : FVec Ideal S4096x8 .f32 :=
  addf (Host.dotGeneral (φ₁ := .f32) (φ₂ := .f32) dot_S4096x64_S64x8_S4096x8_1_0_0_1_n_n none
      (maximumf (addf (Host.dotGeneral (φ₁ := .f32) (φ₂ := .f32) dot_S4096x768_S768x64_S4096x64_1_0_0_1_n_n none x
            (transpose S768x64 [1, 0] A transposes_S64x768_S768x64_1_0))
          (broadcastInDim S4096x64 ![0, 1] bcast_S1x64_S4096x64_0_1 (broadcastInDim S1x64 ![1] bcast_S64_S1x64_1 b)))
        (broadcastInDim S4096x64 ![] bcast_S_S4096x64 (constant S_ .f32 0x00000000#32)))
      (transpose S64x8 [1, 0] B transposes_S8x64_S64x8_1_0))
    (broadcastInDim S4096x8 ![0, 1] bcast_S1x8_S4096x8_0_1 (broadcastInDim S1x8 ![1] bcast_S8_S1x8_1 d))

/-- The exponentials of the scores less the row's greatest. -/
def expo (l : FVec Ideal S4096x8 .f32) : FVec Ideal S4096x8 .f32 :=
  Host.exp (subf l (broadcastInDim S4096x8 ![0, 1] bcast_S4096x1_S4096x8_0_1
    (broadcastInDim S4096x1 ![0] bcast_S4096_S4096x1_0 (maximumf
      (broadcastInDim S4096 ![] bcast_S_S4096 (constant S_ .f32 0xFF800000#32))
      (Host.reduce FloatOps.maximumf l (constant S_ .f32 0xFF800000#32) reducesTo_S4096x8_S4096_d1 h_S_)))))

/-- Rows divided by their sums. -/
def normed (w : FVec Ideal S4096x8 .f32) : FVec Ideal S4096x8 .f32 :=
  Host.divf w (broadcastInDim S4096x8 ![0, 1] bcast_S4096x1_S4096x8_0_1
    (broadcastInDim S4096x1 ![0] bcast_S4096_S4096x1_0
      (Host.reduceAdd w (constant S_ .f32 0x00000000#32) reducesTo_S4096x8_S4096_d1 h_S_)))

/-- Where each kept weight goes: its row, and the position it was taken from. -/
def sites (i : IVec S4096x2 32) : IVec S4096x2x2 32 :=
  concatenate S4096x2x2 2 [⟨S4096x2x1, broadcastInDim S4096x2x1 ![0, 1] bcast_S4096x2_S4096x2x1_0_1
      (broadcastInDim S4096x2 ![0, 1] bcast_S4096x1_S4096x2_0_1 (select (cmpi .slt
        (broadcastInDim S4096x1 ![0] bcast_S4096_S4096x1_0 (iotaInDim S4096 32 0))
        (broadcastInDim S4096x1 ![] bcast_S_S4096x1 (constantI S_ 32 0#32)))
        (addi (broadcastInDim S4096x1 ![0] bcast_S4096_S4096x1_0 (iotaInDim S4096 32 0))
          (broadcastInDim S4096x1 ![] bcast_S_S4096x1 (constantI S_ 32 4096#32)))
        (broadcastInDim S4096x1 ![0] bcast_S4096_S4096x1_0 (iotaInDim S4096 32 0))))⟩,
    ⟨S4096x2x1, broadcastInDim S4096x2x1 ![0, 1] bcast_S4096x2_S4096x2x1_0_1 (select
      (cmpi .slt i (broadcastInDim S4096x2 ![] bcast_S_S4096x2 (constantI S_ 32 0#32)))
      (addi i (broadcastInDim S4096x2 ![] bcast_S_S4096x2 (constantI S_ 32 8#32))) i)⟩]
    concatenates_S4096x2x1_S4096x2x1_S4096x2x2_d2

/-- The two greatest weights of each row and their positions. -/
abbrev kept (w : FVec Ideal S4096x8 .f32) : FVec Ideal S4096x2 .f32 × IVec S4096x2 32 :=
  Host.topK S4096x2 1 (FloatOps.cmpfTotal .gt) w sliceFits_S4096x8_S4096x2

/-- The two greatest weights of each row at their positions, zero elsewhere. -/
def placed (w : FVec Ideal S4096x8 .f32) : FVec Ideal S4096x8 .f32 :=
  Host.scatter scatter_S4096x8_S4096x2x2_S4096x2_n_01_01_2 (fun _ b => b)
    (broadcastInDim S4096x8 ![] bcast_S_S4096x8 (constant S_ .f32 0x00000000#32)) (sites (kept w).2) (kept w).1

/-- The experts' outputs, weighted and added up. -/
def mixed (x : Vec Ideal S4096x768 .f32) (V : Vec Ideal S8x768x768 .f32) (c : Vec Ideal S8x768 .f32)
    (g : FVec Ideal S4096x8 .f32) : FVec Ideal S4096x768 .f32 :=
  Host.reduceAdd (mulf
      (broadcastInDim S4096x8x768 ![0, 1, 2] bcast_S4096x8x1_S4096x8x768_0_1_2
        (broadcastInDim S4096x8x1 ![0, 1] bcast_S4096x8_S4096x8x1_0_1 g))
      (maximumf (addf (Host.dotGeneral (φ₁ := .f32) (φ₂ := .f32) dot_S4096x768_S8x768x768_S4096x8x768_1_2_0_01_n_n none x V)
          (broadcastInDim S4096x8x768 ![0, 1, 2] bcast_S1x8x768_S4096x8x768_0_1_2
            (broadcastInDim S1x8x768 ![1, 2] bcast_S8x768_S1x8x768_1_2 c)))
        (broadcastInDim S4096x8x768 ![] bcast_S_S4096x8x768 (constant S_ .f32 0x00000000#32))))
    (constant S_ .f32 0x00000000#32) reducesTo_S4096x8x768_S4096x768_d1 h_S_

/-- The whole reference. -/
def whole (x : Vec Ideal S4096x768 .f32) (A : Vec Ideal S64x768 .f32) (b : Vec Ideal S64 .f32) (B : Vec Ideal S8x64 .f32)
    (d : Vec Ideal S8 .f32) (V : Vec Ideal S8x768x768 .f32) (c : Vec Ideal S8x768 .f32) : FVec Ideal S4096x768 .f32 :=
  mixed x V c (normed (placed (normed (expo (scores x A b B d)))))

/-- The reference's result is its stages in turn. -/
theorem res_eq_whole (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  show Value.res_main_v52 m c = _
  unfold Value.res_main_v52
  rfl

/-! ## The stages at an index -/

theorem scores_apply (x : Vec Ideal S4096x768 .f32) (A : Vec Ideal S64x768 .f32) (b : Vec Ideal S64 .f32)
    (B : Vec Ideal S8x64 .f32) (d : Vec Ideal S8 .f32) (r : Fin 4096) (e : Fin 8) :
    scores x A b B d (ix2 r e)
      = score (fun k => x (ix2 r k)) (fun h k => A (ix2 h k)) (fun h => b (ix1 h)) (fun e h => B (ix2 e h)) (fun e => d (ix1 e)) e := by
  pointwise [scores]
  rfl

theorem expo_apply (l : FVec Ideal S4096x8 .f32) (r : Fin 4096) (e : Fin 8) :
    expo l (ix2 r e) = Ideal.exp (l (ix2 r e) - top fun k => l (ix2 r k)) := by
  pointwise [expo]
  rw [fold_max_eq_top, negInf_f32, max_eq_right bot_le]

theorem normed_apply (w : FVec Ideal S4096x8 .f32) (r : Fin 4096) (e : Fin 8) :
    normed w (ix2 r e) = Ideal.div (w (ix2 r e)) (∑ k : Fin 8, w (ix2 r k)) := by
  pointwise [normed]

theorem weights_apply (l : FVec Ideal S4096x8 .f32) (r : Fin 4096) (e : Fin 8) :
    normed (expo l) (ix2 r e) = soft (fun k => l (ix2 r k)) e := by
  rw [normed_apply]
  simp only [expo_apply]
  rfl

theorem mixed_apply (x : Vec Ideal S4096x768 .f32) (V : Vec Ideal S8x768x768 .f32) (c : Vec Ideal S8x768 .f32)
    (g : FVec Ideal S4096x8 .f32) (r : Fin 4096) (o : Fin 768) :
    mixed x V c g (ix2 r o)
      = ∑ e : Fin 8, g (ix2 r e) * expert (fun k => x (ix2 r k)) (fun k => V (ix3 e o k)) (c (ix2 e o)) := by
  pointwise [mixed]
  rfl

/-! ## The two kept weights -/

/-- Entry `i` of the sort of row `r`, greatest first: the position it comes from. -/
theorem kept_apply (w : FVec Ideal S4096x8 .f32) (r : Fin 4096) (i : Fin 2) (s : Fin 8)
    (hs : sortedFrom (fun k k' => decide (w (ix2 r k') < w (ix2 r k))) (i.castLE (by decide)) = s) :
    (kept w).1 (ix2 r i) = w (ix2 r s) ∧ (kept w).2 (ix2 r i) = BitVec.ofNat 32 s.val := by
  have hal : ∀ (a : Fin 8) (k : Fin 8), (ix2 (n0 := 4096) (n1 := 8) r a).along 1 k = ix2 r k := fun a k => by
    funext q
    match q with
    | ⟨0, _⟩ => rfl
    | ⟨1, _⟩ => rfl
  have hcmp : ∀ a b : EReal, (FloatOps.cmpfTotal (F := Ideal) (φ := .f32) CmpDirection.gt a b == 1#1) = decide (b < a) := fun a b => by
    show (BitVec.ofBool (decide (b < a)) == 1#1) = decide (b < a)
    cases decide (b < a) <;> rfl
  have hord : ∀ a : Fin 8, (fun k k' : Fin 8 => decide (w ((ix2 (n0 := 4096) (n1 := 8) r a).along 1 k')
      < w ((ix2 (n0 := 4096) (n1 := 8) r a).along 1 k))) = fun k k' => decide (w (ix2 r k') < w (ix2 r k)) := fun a => by
    funext k k'
    rw [hal, hal]
  have hsrc := (congrArg (fun B => sortedFrom B (i.castLE (by decide))) (hord (i.castLE (by decide)))).trans hs
  constructor
  · pointwise [kept, Host.topK, Host.sort2]
    simp only [hcmp]
    exact (congrArg w (hal _ _)).trans (congrArg (fun s => w (ix2 r s)) hsrc)
  · pointwise [kept, Host.topK, Host.sort2]
    simp only [hcmp]
    exact congrArg (fun s : Fin 8 => BitVec.ofNat 32 s.val) hsrc

/-- A word below `2 ^ 31` read signed. -/
theorem toInt_small {n : Nat} (h : n < 2 ^ 31) : (BitVec.ofNat 32 n).toInt = n := by
  rw [BitVec.toInt_eq_toNat_of_lt (by rw [BitVec.toNat_ofNat]; omega), BitVec.toNat_ofNat, Nat.mod_eq_of_lt (by omega)]

/-- A word below `2 ^ 31` is not wrapped. -/
theorem wrap_small {n : Nat} (h : n < 2 ^ 31) (a : BitVec 32) :
    (Scalar.select (IntOp.cmpi .slt (BitVec.ofNat 32 n) 0#32) a (BitVec.ofNat 32 n)).toInt = n := by
  rw [Routing.wrap_of_lt _ _ (by rw [BitVec.toNat_ofNat]; omega), toInt_small h]

theorem sites_row (i : IVec S4096x2 32) (r : Fin 4096) (k : Fin 2) : (sites i (ix3 r k 0)).toInt = r.val := by
  pointwise [sites]
  exact wrap_small (by omega) _

theorem sites_pos (i : IVec S4096x2 32) (r : Fin 4096) (k : Fin 2) (p : Fin 8) (hp : i (ix2 r k) = BitVec.ofNat 32 p.val) :
    (sites i (ix3 r k 1)).toInt = p.val := by
  pointwise [sites]
  rw [hp]
  exact wrap_small (by omega) _

/-- Kept weight `k` of row `r'` lands at entry `e` of row `r` exactly when it is of that row and was taken from position `e`. -/
theorem lands (w : FVec Ideal S4096x8 .f32) (r r' : Fin 4096) (e s : Fin 8) (k : Fin 2)
    (hs : (kept w).2 (ix2 r' k) = BitVec.ofNat 32 s.val) :
    scatter_S4096x8_S4096x2x2_S4096x2_n_01_01_2.resultIdx? (ix2 r' k) (sites (kept w).2) = some (ix2 r e) ↔ r' = r ∧ s = e := by
  have h := Routing.scatter_lands2 scatter_S4096x8_S4096x2x2_S4096x2_n_01_01_2 rfl rfl rfl (sites (kept w).2) r' k r e
  simp only [← ix2_eq_valueIdx, ← ix3_eq_valueIdx] at h
  refine h.trans ?_
  rw [sites_row, sites_pos _ _ _ s hs]
  omega

theorem placed_apply (w : FVec Ideal S4096x8 .f32) (r : Fin 4096) (p q : Fin 8) (hp : IsFirst (fun k => w (ix2 r k)) p)
    (hq : IsSecond (fun k => w (ix2 r k)) p q) (e : Fin 8) :
    placed w (ix2 r e) = if e = q then w (ix2 r q) else if e = p then w (ix2 r p) else 0 := by
  have hk := fun i : Fin 2 => kept_apply w r i _ (sortedFrom_two hp hq i)
  -- what lands at the entry is one of this row's two kept weights, taken from position `e`
  have hland : ∀ j : S4096x2.Idx,
      scatter_S4096x8_S4096x2x2_S4096x2_n_01_01_2.resultIdx? j (sites (kept w).2) = some (ix2 r e) →
      ∃ i : Fin 2, j = ix2 r i ∧ ![p, q] i = e := fun j hj => by
    obtain ⟨a, i, rfl⟩ : ∃ (a : Fin 4096) (i : Fin 2), j = ix2 a i := ⟨j 0, j 1, (ix2_eta (n0 := 4096) (n1 := 2) j).symm⟩
    obtain ⟨rfl, -⟩ := (lands w r a e _ i (kept_apply w a i _ rfl).2).1 hj
    exact ⟨i, rfl, ((lands w a a e _ i (hk i).2).1 hj).2⟩
  have hval : ∀ j : S4096x2.Idx,
      scatter_S4096x8_S4096x2x2_S4096x2_n_01_01_2.resultIdx? j (sites (kept w).2) = some (ix2 r e) →
      (kept w).1 j = w (ix2 r e) := fun j hj => by
    obtain ⟨i, rfl, hi⟩ := hland j hj
    rw [(hk i).1, hi]
  have hhit : ∀ i : Fin 2, ![p, q] i = e → placed w (ix2 r e) = w (ix2 r e) := fun i hi =>
    Routing.scatter_set_hit _ _ _ _ _ _ hval (ix2 r i) ((lands w r r e _ i (hk i).2).2 ⟨rfl, hi⟩)
  by_cases h1 : e = q
  · rw [if_pos h1, hhit 1 h1.symm, h1]
  by_cases h0 : e = p
  · rw [if_neg h1, if_pos h0, hhit 0 h0.symm, h0]
  rw [if_neg h1, if_neg h0]
  refine (Routing.scatter_set_miss _ _ _ _ _ fun j hj => ?_).trans ?_
  · obtain ⟨i, -, hi⟩ := hland j hj
    fin_cases i
    · exact h0 hi.symm
    · exact h1 hi.symm
  · pointwise

/-! ## The reference at an index -/

/-- The gate of the reference: the two greatest of a row of weights, divided by the sum of the row. -/
theorem gate_apply (w : FVec Ideal S4096x8 .f32) (r : Fin 4096)
    (h : (∀ e, 0 ≤ w (ix2 r e)) ∨ (∀ e, w (ix2 r e) = ⊥)) (e : Fin 8) :
    normed (placed w) (ix2 r e) = gate (fun k => w (ix2 r k)) e := by
  obtain ⟨p, q, hp, hq, hg⟩ := gate_of_sorted (W := fun k => w (ix2 r k)) h
  rw [normed_apply]
  simp only [placed_apply w r p q hp hq]
  exact hg e

/-- The reference at an index: the experts mixed by the gate of the row's softmax. -/
theorem whole_apply (x : Vec Ideal S4096x768 .f32) (A : Vec Ideal S64x768 .f32) (b : Vec Ideal S64 .f32)
    (B : Vec Ideal S8x64 .f32) (d : Vec Ideal S8 .f32) (V : Vec Ideal S8x768x768 .f32) (c : Vec Ideal S8x768 .f32)
    (r : Fin 4096) (o : Fin 768) :
    whole x A b B d V c (ix2 r o)
      = mix (soft (score (fun k => x (ix2 r k)) (fun h k => A (ix2 h k)) (fun h => b (ix1 h)) (fun e h => B (ix2 e h))
          (fun e => d (ix1 e))))
        (fun k => x (ix2 r k)) (fun e k => V (ix3 e o k)) (fun e => c (ix2 e o)) := by
  have hw : ∀ e, normed (expo (scores x A b B d)) (ix2 r e)
      = soft (score (fun k => x (ix2 r k)) (fun h k => A (ix2 h k)) (fun h => b (ix1 h)) (fun e h => B (ix2 e h))
          (fun e => d (ix1 e))) e := fun e => by
    rw [weights_apply]
    simp only [scores_apply]
  rw [whole, mixed_apply, mix]
  refine Finset.sum_congr rfl fun e _ => ?_
  rw [gate_apply _ r (by simp only [hw]; exact soft_cases _)]
  simp only [hw]

end Cert.ReferenceIdeal.Stage

end
-- ==== Proof.lean ====
/-
  The certificate: the kernel and the reference both run and leave their arguments as they were, and on equal arguments the
  kernel's array is the reference's. Row by row both are `mix` of the row (Proof/Row.lean): the kernel by Proof/Block.lean
  and Proof/Array.lean, the reference by Proof/Sort.lean and Proof/Reference.lean.
-/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

theorem frame_kernel : Cert.quiescent_Kernel := fun m ρ _ => Cert.Kernel.Gen.frame m ρ

theorem frame_kernelIdeal : Cert.quiescent_KernelIdeal := fun m ρ _ => Cert.KernelIdeal.Gen.frame m ρ

/-- The reference has no semaphore, so every counter is zero throughout. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From equal arguments the reference's result is the kernel's array, index by index. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
          = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
          = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
          = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
          = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
          = m ((c.tc : Thread Cert.KernelIdeal.nD Cert.KernelIdeal.τ).loc Cert.KernelIdeal.main_arg6)) :
    Cert.ReferenceIdeal.Value.res_out0 m' c = Cert.KernelIdeal.Output.output m c := by
  obtain ⟨h0, h1, h2, h3, h4, h5, h6⟩ := h
  rw [Cert.ReferenceIdeal.Stage.res_eq_whole, h0, h1, h2, h3, h4, h5, h6]
  funext y
  obtain ⟨i, u, rfl⟩ : ∃ (i : Fin 4096) (u : Fin 768), y = ix2 i u :=
    ⟨y 0, y 1, (ix2_eta (n0 := 4096) (n1 := 768) y).symm⟩
  exact Cert.ReferenceIdeal.Stage.whole_apply _ _ _ _ _ _ _ i u

theorem algebraic : Cert.algebraic_KernelIdeal_ReferenceIdeal := by
  intro m ρ m' ρ' _ hagree
  refine ⟨fun c => Cert.KernelIdeal.Output.output m c, ?_, ?_⟩
  · exact (θ_run Cert.KernelIdeal.defs _ _).mono
      (fun r h c => ⟨(h c).1.trans (Cert.KernelIdeal.Output.array_eq m c), (h c).2⟩)
      (Cert.KernelIdeal.Value.run_blocks m ρ)
  · exact (θ_run Cert.ReferenceIdeal.defs _ _).mono
      (fun r h c => ⟨(h c).1.trans (result_eq m m' c (hagree c)), (h c).2⟩)
      (Cert.ReferenceIdeal.Value.run m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
